-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_v41) = v2 c
          ∧ r.2.mem ((c.tc : Thread Cert.ReferenceIdeal.nD Cert.ReferenceIdeal.τ).loc Cert.ReferenceIdeal.main_v17) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x64x32x32 : Shape := ⟨4, ![16, 64, 32, 32]⟩
abbrev S1024x64 : Shape := ⟨2, ![1024, 64]⟩
abbrev S16x32x32x64 : Shape := ⟨4, ![16, 32, 32, 64]⟩
abbrev S16384x64 : Shape := ⟨2, ![16384, 64]⟩
abbrev S_ : Shape := ⟨0, ![]⟩
abbrev S16384 : Shape := ⟨1, ![16384]⟩
abbrev S16384x1 : Shape := ⟨2, ![16384, 1]⟩
abbrev S1024 : Shape := ⟨1, ![1024]⟩
abbrev S1x1024 : Shape := ⟨2, ![1, 1024]⟩
abbrev S16384x1024 : Shape := ⟨2, ![16384, 1024]⟩
abbrev S1x1 : Shape := ⟨2, ![1, 1]⟩
abbrev S2048x64 : Shape := ⟨2, ![2048, 64]⟩
abbrev S2048x1 : Shape := ⟨2, ![2048, 1]⟩
abbrev S2048x1024 : Shape := ⟨2, ![2048, 1024]⟩
abbrev S1 : Shape := ⟨1, ![1]⟩
abbrev S2048 : Shape := ⟨1, ![2048]⟩
abbrev S1x2048x64 : Shape := ⟨3, ![1, 2048, 64]⟩
abbrev S1x1x1 : Shape := ⟨3, ![1, 1, 1]⟩

abbrev nBuf : Space → Nat
  | .hbm => 20
  | .vmem => 13
  | .smem => 1
  | _ => 0

abbrev bufTy : (tb : Table) → Fin (tcTables nBuf tb) → BufTy
  | .hbm, ⟨0, _⟩ => ⟨S16x64x32x32, .f32⟩
  | .hbm, ⟨1, _⟩ => ⟨S1024x64, .f32⟩
  | .hbm, ⟨2, _⟩ => ⟨S16x32x32x64, .f32⟩
  | .hbm, ⟨3, _⟩ => ⟨S16384x64, .f32⟩
  | .hbm, ⟨4, _⟩ => ⟨S16384x64, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S1024x64, .f32⟩
  | .hbm, ⟨9, _⟩ => ⟨S_, .f32⟩
  | .hbm, ⟨10, _⟩ => ⟨S1024, .f32⟩
  | .hbm, ⟨11, _⟩ => ⟨S1x1024, .f32⟩
  | .hbm, ⟨12, _⟩ => ⟨S16384x1024, .f32⟩
  | .hbm, ⟨13, _⟩ => ⟨S16384x64, .f32⟩
  | .hbm, ⟨14, _⟩ => ⟨S1x1, .f32⟩
  | .hbm, ⟨15, _⟩ => ⟨S1x1, .f32⟩
  | .hbm, ⟨16, _⟩ => ⟨S16x32x32x64, .f32⟩
  | .hbm, ⟨17, _⟩ => ⟨S16x64x32x32, .f32⟩
  | .hbm, ⟨18, _⟩ => ⟨S_, .f32⟩
  | .hbm, ⟨19, _⟩ => ⟨S_, .f32⟩
  | .local _ .vmem, ⟨0, _⟩ => ⟨S2048x64, .f32⟩
  | .local _ .vmem, ⟨1, _⟩ => ⟨S2048x64, .f32⟩
  | .local _ .vmem, ⟨2, _⟩ => ⟨S2048x1, .f32⟩
  | .local _ .vmem, ⟨3, _⟩ => ⟨S2048x1, .f32⟩
  | .local _ .vmem, ⟨4, _⟩ => ⟨S1x1024, .f32⟩
  | .local _ .vmem, ⟨5, _⟩ => ⟨S1024x64, .f32⟩
  | .local _ .vmem, ⟨6, _⟩ => ⟨S2048x1024, .f32⟩
  | .local _ .vmem, ⟨7, _⟩ => ⟨S2048x1024, .f32⟩
  | .local _ .vmem, ⟨8, _⟩ => ⟨S2048x64, .f32⟩
  | .local _ .vmem, ⟨9, _⟩ => ⟨S2048x64, .f32⟩
  | .local _ .vmem, ⟨10, _⟩ => ⟨S1x1, .f32⟩
  | .local _ .vmem, ⟨11, _⟩ => ⟨S1x1, .f32⟩
  | .local _ .vmem, ⟨12, _⟩ => ⟨S1x1024, .f32⟩
  | .local _ .smem, ⟨0, _⟩ => ⟨S1, .f32⟩
  | _, _ => ⟨S16x64x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_cst : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_cst_0 : Ref sig .tc := ⟨.hbm, 9, rfl⟩
abbrev main_call0_v6 : Ref sig .tc := ⟨.hbm, 10, rfl⟩
abbrev main_call0_v7 : Ref sig .tc := ⟨.hbm, 11, rfl⟩
abbrev main_v0_3 : Ref sig .tc := ⟨.hbm, 12, rfl⟩
abbrev main_call0_v8_1 : Ref sig .tc := ⟨.hbm, 13, rfl⟩
abbrev main_call0_v8_2 : Ref sig .tc := ⟨.hbm, 14, rfl⟩
abbrev main_call0_v8_3 : Ref sig .tc := ⟨.hbm, 15, rfl⟩
abbrev main_call0_v9 : Ref sig .tc := ⟨.hbm, 16, rfl⟩
abbrev main_v0_0 : Ref sig .tc := ⟨.hbm, 17, rfl⟩
abbrev main_v0_1 : Ref sig .tc := ⟨.hbm, 18, rfl⟩
abbrev main_v0_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_scratch1 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v51 : BitVec 1 := Scalar.cmpi .eq arg0 c7_i32
  let v52 : BitVec 32 := Scalar.extui v51
  let c0_i32_24 : BitVec 32 := 0#32
  let v53 : BitVec 1 := Scalar.cmpi .ne v52 c0_i32_24
  v53

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S16x64x32x32 : Shape := ⟨4, ![16, 64, 32, 32]⟩
abbrev S1024x64 : Shape := ⟨2, ![1024, 64]⟩
abbrev S16x32x32x64 : Shape := ⟨4, ![16, 32, 32, 64]⟩
abbrev S16384x64 : Shape := ⟨2, ![16384, 64]⟩
abbrev S_ : Shape := ⟨0, ![]⟩
abbrev S16384 : Shape := ⟨1, ![16384]⟩
abbrev S16384x1 : Shape := ⟨2, ![16384, 1]⟩
abbrev S1024 : Shape := ⟨1, ![1024]⟩
abbrev S1x1024 : Shape := ⟨2, ![1, 1024]⟩
abbrev S16384x1024 : Shape := ⟨2, ![16384, 1024]⟩
abbrev S64x1024 : Shape := ⟨2, ![64, 1024]⟩

abbrev nBuf : Space → Nat
  | .hbm => 66
  | .vmem => 0
  | .smem => 0
  | _ => 0

abbrev bufTy : (tb : Table) → Fin (tcTables nBuf tb) → BufTy
  | .hbm, ⟨0, _⟩ => ⟨S16x64x32x32, .f32⟩
  | .hbm, ⟨1, _⟩ => ⟨S1024x64, .f32⟩
  | .hbm, ⟨2, _⟩ => ⟨S16x32x32x64, .f32⟩
  | .hbm, ⟨3, _⟩ => ⟨S16384x64, .f32⟩
  | .hbm, ⟨4, _⟩ => ⟨S16384x64, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S1024x64, .f32⟩
  | .hbm, ⟨9, _⟩ => ⟨S_, .f32⟩
  | .hbm, ⟨10, _⟩ => ⟨S1024, .f32⟩
  | .hbm, ⟨11, _⟩ => ⟨S1x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S64x1024, .f32⟩
  | .hbm, ⟨16, _⟩ => ⟨S16384x1024, .f32⟩
  | .hbm, ⟨17, _⟩ => ⟨S_, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .i32⟩
  | .hbm, ⟨22, _⟩ => ⟨S_, .f32⟩
  | .hbm, ⟨23, _⟩ => ⟨S_, .i32⟩
  | .hbm, ⟨24, _⟩ => ⟨S16384, .f32⟩
  | .hbm, ⟨25, _⟩ => ⟨S16384, .i32⟩
  | .hbm, ⟨26, _⟩ => ⟨S16384x1, .i32⟩
  | .hbm, ⟨27, _⟩ => ⟨S1x1024, .i32⟩
  | .hbm, ⟨28, _⟩ => ⟨S16384x1024, .i32⟩
  | .hbm, ⟨29, _⟩ => ⟨S16384x1024, .i32⟩
  | .hbm, ⟨30, _⟩ => ⟨S16384x1024, .i1⟩
  | .hbm, ⟨31, _⟩ => ⟨S16384x1024, .f32⟩
  | .hbm, ⟨32, _⟩ => ⟨S16384x64, .f32⟩
  | .hbm, ⟨33, _⟩ => ⟨S16x32x32x64, .f32⟩
  | .hbm, ⟨34, _⟩ => ⟨S16x32x32x64, .f32⟩
  | .hbm, ⟨35, _⟩ => ⟨S16x32x32x64, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S16x32x32x64, .f32⟩
  | .hbm, ⟨41, _⟩ => ⟨S16x32x32x64, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S16x32x32x64, .f32⟩
  | .hbm, ⟨50, _⟩ => ⟨S16x32x32x64, .f32⟩
  | .hbm, ⟨51, _⟩ => ⟨S_, .f32⟩
  | .hbm, ⟨52, _⟩ => ⟨S1024, .f32⟩
  | .hbm, ⟨53, _⟩ => ⟨S_, .f32⟩
  | .hbm, ⟨54, _⟩ => ⟨S1024, .f32⟩
  | .hbm, ⟨55, _⟩ => ⟨S1024, .f32⟩
  | .hbm, ⟨56, _⟩ => ⟨S_, .f32⟩
  | .hbm, ⟨57, _⟩ => ⟨S1024, .f32⟩
  | .hbm, ⟨58, _⟩ => ⟨S1024, .f32⟩
  | .hbm, ⟨59, _⟩ => ⟨S1024, .f32⟩
  | .hbm, ⟨60, _⟩ => ⟨S1024, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S16x64x32x32, .f32⟩
  | _, _ => ⟨S16x64x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v16 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_cst_5 : Ref sig .tc := ⟨.hbm, 44, rfl⟩
abbrev main_v27 : Ref sig .tc := ⟨.hbm, 45, rfl⟩
abbrev main_cst_6 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_7 : Ref sig .tc := ⟨.hbm, 51, rfl⟩
abbrev main_v32 : Ref sig .tc := ⟨.hbm, 52, rfl⟩
abbrev main_cst_8 : Ref sig .tc := ⟨.hbm, 53, rfl⟩
abbrev main_v33 : Ref sig .tc := ⟨.hbm, 54, rfl⟩
abbrev main_v34 : Ref sig .tc := ⟨.hbm, 55, rfl⟩
abbrev main_cst_9 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_10 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩

abbrev nD : Nat := 1
abbrev τ : Topo := Topo.v7x

variable {F : FTy → Type} [FloatOps F]
-- ==== Proof.RefValue.lean ====
/-
  What the reference computes, one function per line of its mathematics, at any float values. `x` is the [16, 64, 32, 32]
  array and `e` the codebook [1024, 64].
-/
module

public import proofs.«01_k».proof.Proof.Gen.ReferenceIdeal

@[expose] public section

set_option maxRecDepth 16384

noncomputable section

namespace Cert.RefValue

open Cert.ReferenceIdeal Cert.ReferenceIdeal.Gen
open Idealize.ShloMosaic Idealize.SL.Sem

variable {F : FTy → Type} [FloatOps F]

/-- A scalar constant of the reference. -/
abbrev lit (b : BitVec 32) : Vec F S_ .f32 := constant S_ .f32 b

/-- `x` with its channels last. -/
def nhwc (x : Vec F S16x64x32x32 .f32) : Vec F S16x32x32x64 .f32 :=
  transpose S16x32x32x64 [0, 2, 3, 1] x transposes_S16x64x32x32_S16x32x32x64_0_2_3_1

/-- The 16384 rows of 64 channels. -/
def flat (x : Vec F S16x64x32x32 .f32) : Vec F S16384x64 .f32 :=
  shapeCast S16384x64 (nhwc x) shapeCasts_S16x32x32x64_S16384x64

/-- The squared length of each row of `x`. -/
def normX (x : Vec F S16x64x32x32 .f32) : Vec F S16384 .f32 :=
  Host.reduceAdd (mulf (flat x) (flat x)) (lit 0x00000000#32) reducesTo_S16384x64_S16384_d1 h_S_

/-- The squared length of each row of the codebook. -/
def normE (e : Vec F S1024x64 .f32) : Vec F S1024 .f32 :=
  Host.reduceAdd (mulf e e) (lit 0x00000000#32) reducesTo_S1024x64_S1024_d1 h_S_

/-- The products of the rows of `x` with the rows of the codebook. -/
def prod (x : Vec F S16x64x32x32 .f32) (e : Vec F S1024x64 .f32) : Vec F S16384x1024 .f32 :=
  Host.dotGeneral dot_S16384x64_S64x1024_S16384x1024_1_0_0_1_n_n none (flat x)
    (transpose S64x1024 [1, 0] e transposes_S1024x64_S64x1024_1_0)

/-- The squared distances `‖x‖² + ‖e‖² − 2 x·e`. -/
def sqDist (x : Vec F S16x64x32x32 .f32) (e : Vec F S1024x64 .f32) : Vec F S16384x1024 .f32 :=
  subf
    (addf
      (broadcastInDim S16384x1024 ![0, 1] bcast_S16384x1_S16384x1024_0_1
        (broadcastInDim S16384x1 ![0] bcast_S16384_S16384x1_0 (normX x)))
      (broadcastInDim S16384x1024 ![0, 1] bcast_S1x1024_S16384x1024_0_1
        (broadcastInDim S1x1024 ![1] bcast_S1024_S1x1024_1 (normE e))))
    (mulf (broadcastInDim S16384x1024 ![] bcast_S_S16384x1024 (lit 0x40000000#32)) (prod x e))

/-- The index result of jax's arg-min, at any shapes. -/
def argMin {s t u : Shape} {axes : List (Fin s.rank)} (x : FVec F s .f32) (y : s.Idx → BitVec 32) (vx : FVec F u .f32)
    (vy : u.Idx → BitVec 32) (h : s.ReducesTo axes t) (hu : 0 < u.numel) (j : t.Idx) : BitVec 32 :=
  (Host.argReduce (reducer_argmin_f32_i32 (F := F)) x y vx vy h hu j).2

/-- The number of the nearest codebook row, the first of several. -/
def nearest (d : Vec F S16384x1024 .f32) : Vec F S16384 .i32 :=
  argMin (F := F) d (iotaInDim S16384x1024 32 1) (lit (F := F) 0x7F800000#32) (constantI S_ 32 0#32)
    reducesTo_S16384x1024_S16384_d1 h_S_

/-- The one-hot matrix of row numbers. -/
def oneHot (i : Vec F S16384 .i32) : Vec F S16384x1024 .f32 :=
  uitofp .f32 (cmpi .eq
    (broadcastInDim S16384x1024 ![0, 1] bcast_S16384x1_S16384x1024_0_1 (broadcastInDim S16384x1 ![0] bcast_S16384_S16384x1_0 i))
    (broadcastInDim S16384x1024 ![0, 1] bcast_S1x1024_S16384x1024_0_1 (iotaInDim S1x1024 32 1)))

/-- The chosen codebook rows: the one-hot matrix times the codebook. -/
def rows (enc : Vec F S16384x1024 .f32) (e : Vec F S1024x64 .f32) : Vec F S16384x64 .f32 :=
  Host.dotGeneral dot_S16384x1024_S1024x64_S16384x64_1_0_0_1_n_n none enc e

/-- The chosen codebook rows, in `x`'s channels-last form. -/
def chosen (enc : Vec F S16384x1024 .f32) (e : Vec F S1024x64 .f32) : Vec F S16x32x32x64 .f32 :=
  shapeCast S16x32x32x64 (rows enc e) shapeCasts_S16384x64_S16x32x32x64

/-- The mean of the squared differences. -/
def mse (q n : Vec F S16x32x32x64 .f32) : Vec F S_ .f32 :=
  Host.divf (Host.reduceAdd (mulf (subf q n) (subf q n)) (lit 0x00000000#32) reducesTo_S16x32x32x64_S_d0_1_2_3 h_S_)
    (lit 0x49800000#32)

/-- The loss: that mean and a quarter of it. -/
def loss (q n : Vec F S16x32x32x64 .f32) : Vec F S_ .f32 :=
  addf (mse q n) (mulf (lit 0x3E800000#32) (mse q n))

/-- The quantized array `x + (q − x)`, channels second again. -/
def quantized (q n : Vec F S16x32x32x64 .f32) : Vec F S16x64x32x32 .f32 :=
  transpose S16x64x32x32 [0, 3, 1, 2] (addf n (subf q n)) transposes_S16x32x32x64_S16x64x32x32_0_3_1_2

/-- How often each codebook row is chosen, divided by the number of rows. -/
def share (enc : Vec F S16384x1024 .f32) : Vec F S1024 .f32 :=
  Host.divf (Host.reduceAdd enc (lit 0x00000000#32) reducesTo_S16384x1024_S1024_d0 h_S_)
    (broadcastInDim S1024 ![] bcast_S_S1024 (lit 0x46800000#32))

/-- The perplexity `exp (−Σ p log (p + 1e-10))`. -/
def perplexity (enc : Vec F S16384x1024 .f32) : Vec F S_ .f32 :=
  Host.exp (Host.negf (Host.reduceAdd
    (mulf (share enc) (Host.log (addf (share enc) (broadcastInDim S1024 ![] bcast_S_S1024 (lit 0x2EDBE6FF#32)))))
    (lit 0x00000000#32) reducesTo_S1024_S_d0 h_S_))

end Cert.RefValue

end
-- ==== Proof.RefRun.lean ====
/-
  The run of the reference: a straight line of host operations (no kernel), so that every buffer ends at the operations'
  results folded over the launch contents. What the four result buffers hold is stated by the functions of
  `Proof/RefValue.lean`, each one line of the mathematics: distances, the nearest row's number, its one-hot matrix, the
  quantized array, the loss, the perplexity.
-/
module

public import proofs.«01_k».proof.Defs
public import proofs.«01_k».proof.Proof.RefValue
public import Idealize.ShloMosaic.Lib.StableHlo.Run
public import Idealize.ShloMosaic.Lib.Quiescent

@[expose] public section

set_option maxRecDepth 16384

noncomputable section

namespace Cert.RefRun

open Cert.ReferenceIdeal Cert.ReferenceIdeal.Gen Cert.RefValue
open Idealize.ShloMosaic Idealize.ShloMosaic.TcCoe Idealize.ShloMosaic.StableHlo Idealize.SL.Sem

variable {F : FTy → Type} [FloatOps F]

/-- The operations of the reference's @main in order, the two called functions' lines in place of the calls. -/
abbrev ops : List (HloOp τ sig (Elt F)) :=
  [ unary main_arg0 main_v0 (transpose S16x32x32x64 [0, 2, 3, 1] · transposes_S16x64x32x32_S16x32x32x64_0_2_3_1),
    reshape main_v0 main_v1 rfl shapeCasts_S16x32x32x64_S16384x64,
    binary main_v1 main_v1 main_v2 mulf,
    nullary main_cst (constant S_ .f32 0x00000000#32),
    binary main_v2 main_cst main_v3 (fun x v => Host.reduceAdd x v reducesTo_S16384x64_S16384_d1 h_S_),
    unary main_v3 main_v4 (broadcastInDim S16384x1 ![0] bcast_S16384_S16384x1_0),
    binary main_arg1 main_arg1 main_v5 mulf,
    nullary main_cst_0 (constant S_ .f32 0x00000000#32),
    binary main_v5 main_cst_0 main_v6 (fun x v => Host.reduceAdd x v reducesTo_S1024x64_S1024_d1 h_S_),
    unary main_v6 main_v7 (broadcastInDim S1x1024 ![1] bcast_S1024_S1x1024_1),
    unary main_v4 main_v8 (broadcastInDim S16384x1024 ![0, 1] bcast_S16384x1_S16384x1024_0_1),
    unary main_v7 main_v9 (broadcastInDim S16384x1024 ![0, 1] bcast_S1x1024_S16384x1024_0_1),
    binary main_v8 main_v9 main_v10 addf,
    unary main_arg1 main_v11 (transpose S64x1024 [1, 0] · transposes_S1024x64_S64x1024_1_0),
    binary main_v1 main_v11 main_v12 (fun l r => Host.dotGeneral dot_S16384x64_S64x1024_S16384x1024_1_0_0_1_n_n none l r),
    nullary main_cst_1 (constant S_ .f32 0x40000000#32),
    unary main_cst_1 main_v13 (broadcastInDim S16384x1024 ![] bcast_S_S16384x1024),
    binary main_v13 main_v12 main_v14 mulf,
    binary main_v10 main_v14 main_v15 subf,
    nullary main_call0_v0 (iotaInDim S16384x1024 32 1),
    nullary main_call0_cst (constant S_ .f32 0x7F800000#32),
    nullary main_call0_c (constantI S_ 32 0#32),
    quaternary main_v15 main_call0_v0 main_call0_cst main_call0_c main_call0_v1_0 (fun x y u v j => (Host.argReduce reducer_argmin_f32_i32 x y u v reducesTo_S16384x1024_S16384_d1 h_S_ j).1),
    quaternary main_v15 main_call0_v0 main_call0_cst main_call0_c main_v16 (fun x y u v j => (Host.argReduce reducer_argmin_f32_i32 x y u v reducesTo_S16384x1024_S16384_d1 h_S_ j).2),
    unary main_v16 main_call1_v0 (broadcastInDim S16384x1 ![0] bcast_S16384_S16384x1_0),
    nullary main_call1_v1 (iotaInDim S1x1024 32 1),
    unary main_call1_v0 main_call1_v2 (broadcastInDim S16384x1024 ![0, 1] bcast_S16384x1_S16384x1024_0_1),
    unary main_call1_v1 main_call1_v3 (broadcastInDim S16384x1024 ![0, 1] bcast_S1x1024_S16384x1024_0_1),
    binary main_call1_v2 main_call1_v3 main_call1_v4 (cmpi .eq),
    unary main_call1_v4 main_v17 (uitofp .f32),
    binary main_v17 main_arg1 main_v18 (fun l r => Host.dotGeneral dot_S16384x1024_S1024x64_S16384x64_1_0_0_1_n_n none l r),
    reshape main_v18 main_v19 rfl shapeCasts_S16384x64_S16x32x32x64,
    binary main_v19 main_v0 main_v20 subf,
    binary main_v20 main_v20 main_v21 mulf,
    nullary main_cst_2 (constant S_ .f32 0x00000000#32),
    binary main_v21 main_cst_2 main_v22 (fun x v => Host.reduceAdd x v reducesTo_S16x32x32x64_S_d0_1_2_3 h_S_),
    nullary main_cst_3 (constant S_ .f32 0x49800000#32),
    binary main_v22 main_cst_3 main_v23 Host.divf,
    binary main_v19 main_v0 main_v24 subf,
    binary main_v24 main_v24 main_v25 mulf,
    nullary main_cst_4 (constant S_ .f32 0x00000000#32),
    binary main_v25 main_cst_4 main_v26 (fun x v => Host.reduceAdd x v reducesTo_S16x32x32x64_S_d0_1_2_3 h_S_),
    nullary main_cst_5 (constant S_ .f32 0x49800000#32),
    binary main_v26 main_cst_5 main_v27 Host.divf,
    nullary main_cst_6 (constant S_ .f32 0x3E800000#32),
    binary main_cst_6 main_v27 main_v28 mulf,
    binary main_v23 main_v28 main_v29 addf,
    binary main_v19 main_v0 main_v30 subf,
    binary main_v0 main_v30 main_v31 addf,
    nullary main_cst_7 (constant S_ .f32 0x00000000#32),
    binary main_v17 main_cst_7 main_v32 (fun x v => Host.reduceAdd x v reducesTo_S16384x1024_S1024_d0 h_S_),
    nullary main_cst_8 (constant S_ .f32 0x46800000#32),
    unary main_cst_8 main_v33 (broadcastInDim S1024 ![] bcast_S_S1024),
    binary main_v32 main_v33 main_v34 Host.divf,
    nullary main_cst_9 (constant S_ .f32 0x2EDBE6FF#32),
    unary main_cst_9 main_v35 (broadcastInDim S1024 ![] bcast_S_S1024),
    binary main_v34 main_v35 main_v36 addf,
    unary main_v36 main_v37 Host.log,
    binary main_v34 main_v37 main_v38 mulf,
    nullary main_cst_10 (constant S_ .f32 0x00000000#32),
    binary main_v38 main_cst_10 main_v39 (fun x v => Host.reduceAdd x v reducesTo_S1024_S_d0 h_S_),
    unary main_v39 main_v40 Host.negf,
    unary main_v40 main_v41 Host.exp,
    unary main_v31 main_v42 (transpose S16x64x32x32 [0, 3, 1, 2] · transposes_S16x32x32x64_S16x64x32x32_0_3_1_2) ]

/-- @main is that straight line. -/
theorem main_eq (c : Dev nD) : main (F := F) c = seq ops := rfl

/-- Every operation touches TensorCore references only. -/
theorem ops_sub : (ops : List (HloOp τ sig (Elt F))).Forall fun op => op.bufs ⊆ tcRefs τ sig :=
  ⟨unary_bufs_sub .., reshape_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., nullary_bufs_sub .., nullary_bufs_sub .., quaternary_bufs_sub .., quaternary_bufs_sub .., unary_bufs_sub .., nullary_bufs_sub .., unary_bufs_sub .., unary_bufs_sub .., binary_bufs_sub .., unary_bufs_sub .., binary_bufs_sub .., reshape_bufs_sub .., binary_bufs_sub .., binary_bufs_sub .., nullary_bufs_sub .., binary_bufs_sub .., nullary_bufs_sub .., binary_bufs_sub .., binary_bufs_sub .., binary_bufs_sub .., nullary_bufs_sub .., binary_bufs_sub .., nullary_bufs_sub .., binary_bufs_sub .., nullary_bufs_sub .., binary_bufs_sub .., binary_bufs_sub .., binary_bufs_sub .., binary_bufs_sub .., nullary_bufs_sub .., binary_bufs_sub .., nullary_bufs_sub .., unary_bufs_sub .., binary_bufs_sub .., nullary_bufs_sub .., unary_bufs_sub .., binary_bufs_sub .., unary_bufs_sub .., binary_bufs_sub .., nullary_bufs_sub .., binary_bufs_sub .., unary_bufs_sub .., unary_bufs_sub .., unary_bufs_sub ..⟩

theorem scopedRefs_eq : (Finset.univ.filter fun b : Ref sig .tc => b.isScoped) = ∅ := by decide
theorem scopedSems_eq : (Finset.univ.filter fun sm : SemLoc sig => sm.isScoped .tc) = ∅ := by decide

/-- The one-hot matrix of the nearest rows, at the reference's arguments. -/
abbrev encOf (x : Vec F S16x64x32x32 .f32) (e : Vec F S1024x64 .f32) : Vec F S16384x1024 .f32 := oneHot (nearest (sqDist x e))

variable (V : Valuation τ sig (Elt F))

/-- The fold of the operations at the one-hot matrix's buffer. -/
theorem enc_eq : after ops V (main_v17 : DevRef τ sig) = encOf (V (main_arg0 : DevRef τ sig)) (V (main_arg1 : DevRef τ sig)) := by
  after_results
  delta encOf perplexity share quantized loss mse chosen rows oneHot nearest argMin sqDist prod normX normE flat nhwc lit
  rfl

/-- At the quantized array's. -/
theorem quantized_eq : after ops V (main_v42 : DevRef τ sig) =
    quantized (chosen (encOf (V (main_arg0 : DevRef τ sig)) (V (main_arg1 : DevRef τ sig))) (V (main_arg1 : DevRef τ sig)))
      (nhwc (V (main_arg0 : DevRef τ sig))) := by
  after_results
  delta encOf perplexity share quantized loss mse chosen rows oneHot nearest argMin sqDist prod normX normE flat nhwc lit
  rfl

/-- At the loss's. -/
theorem loss_eq : after ops V (main_v29 : DevRef τ sig) =
    loss (chosen (encOf (V (main_arg0 : DevRef τ sig)) (V (main_arg1 : DevRef τ sig))) (V (main_arg1 : DevRef τ sig)))
      (nhwc (V (main_arg0 : DevRef τ sig))) := by
  after_results
  delta encOf perplexity share quantized loss mse chosen rows oneHot nearest argMin sqDist prod normX normE flat nhwc lit
  rfl

/-- At the perplexity's. -/
theorem perplexity_eq : after ops V (main_v41 : DevRef τ sig) =
    perplexity (encOf (V (main_arg0 : DevRef τ sig)) (V (main_arg1 : DevRef τ sig))) := by
  after_results
  delta encOf perplexity share quantized loss mse chosen rows oneHot nearest argMin sqDist prod normX normE flat nhwc lit
  rfl

/-- No operation writes an argument. -/
theorem arg0_eq : after ops V (main_arg0 : DevRef τ sig) = V (main_arg0 : DevRef τ sig) := by after_results
theorem arg1_eq : after ops V (main_arg1 : DevRef τ sig) = V (main_arg1 : DevRef τ sig) := by after_results

variable (m : (ℓ : Loc nD τ sig) → Buf (Elt F) ℓ) (ρ : Dev nD → PrngReg)

/-- The reference's run: it ends with the four results at these values and the arguments unchanged. -/
theorem run : θ_run defs (onTc (τ := τ) (main (F := F))) ⟨m, fun _ => 0, ρ⟩ fun r => ∀ c : Dev nD,
      r.2.mem ((c.tc : Thread nD τ).loc main_v42) = quantized (chosen (encOf (m ((c.tc : Thread nD τ).loc main_arg0)) (m ((c.tc : Thread nD τ).loc main_arg1))) (m ((c.tc : Thread nD τ).loc main_arg1))) (nhwc (m ((c.tc : Thread nD τ).loc main_arg0)))
      ∧ r.2.mem ((c.tc : Thread nD τ).loc main_v29) = loss (chosen (encOf (m ((c.tc : Thread nD τ).loc main_arg0)) (m ((c.tc : Thread nD τ).loc main_arg1))) (m ((c.tc : Thread nD τ).loc main_arg1))) (nhwc (m ((c.tc : Thread nD τ).loc main_arg0)))
      ∧ r.2.mem ((c.tc : Thread nD τ).loc main_v41) = perplexity (encOf (m ((c.tc : Thread nD τ).loc main_arg0)) (m ((c.tc : Thread nD τ).loc main_arg1)))
      ∧ r.2.mem ((c.tc : Thread nD τ).loc main_v17) = encOf (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v42).trans (quantized_eq _), (h c main_v29).trans (loss_eq _),
      (h c main_v41).trans (perplexity_eq _), (h c main_v17).trans (enc_eq _), (h c main_arg0).trans (arg0_eq _),
      (h c main_arg1).trans (arg1_eq _)⟩)
    (run_seq scopedRefs_eq scopedSems_eq defs main (fun _ => ops) main_eq (fun _ => ops_sub) m ρ)

/-- It leaves the arguments unchanged and every semaphore counter at zero. -/
theorem frame : θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono (fun r h => ⟨fun c => (h c).2.2.2.2, sem_eq_zero_of_no_sems rfl r.2⟩) (run m ρ)

end Cert.RefRun

end
-- ==== Proof.Hot.lean ====
/-
  The one-hot row of the first smallest entry. `Hot.hot d` has a one at the first index where the row `d` of 1024 values
  is smallest and a zero elsewhere. The kernel finds it by a minimum, a comparison with it and a signed minimum of the
  matching indices; the reference folds (value, index) pairs by jax's arg-min body. Both give `hot d`, at every row of
  extended reals, infinite ones included.
-/
module

public import proofs.«01_k».proof.Proof.RefValue
public import Idealize.ShloMosaic.Lib.Pointwise
public import Idealize.ShloMosaic.Lib.WordCmp
public import Idealize.ShloMosaic.Lib.SortNet.Extract

@[expose] public section

set_option maxRecDepth 16384

noncomputable section

namespace Cert.Hot

open Idealize.ShloMosaic Idealize.SL.Sem

/-- `i` is the first index at which `d` is smallest. -/
def IsFirst (d : Fin 1024 → EReal) (i : Fin 1024) : Prop := (∀ k, d i ≤ d k) ∧ ∀ k, d k = d i → i ≤ k

/-- One at the first smallest entry of `d`, zero elsewhere. -/
def hot (d : Fin 1024 → EReal) (k : Fin 1024) : EReal := by
  classical exact if IsFirst d k then 1 else 0

/-- There is one first smallest entry only. -/
theorem IsFirst.unique {d : Fin 1024 → EReal} {i j : Fin 1024} (hi : IsFirst d i) (hj : IsFirst d j) : i = j :=
  have he : d i = d j := le_antisymm (hi.1 j) (hj.1 i)
  le_antisymm (hi.2 j he.symm) (hj.2 i he)

/-- The one-hot row, told from its index. -/
theorem hot_eq {d : Fin 1024 → EReal} {i : Fin 1024} (hi : IsFirst d i) (k : Fin 1024) : hot d k = if k = i then 1 else 0 := by
  unfold hot
  by_cases h : k = i
  · rw [if_pos h, if_pos (h ▸ hi)]
  · rw [if_neg h, if_neg fun hk => h (hk.unique hi)]

/-- The binary32 word of plus infinity. -/
theorem ofBits_inf : Ideal.ofBits .f32 0x7F800000#32 = ⊤ := by
  simp [Ideal.ofBits, Ideal.ieee]

/-- A row number below 1024, read as a signed word, is itself. -/
theorem toInt_num (k : Fin 1024) : (BitVec.ofNat 32 k.val).toInt = k.val := by
  have := k.isLt
  rw [BitVec.toInt_eq_toNat_of_lt] <;> simp only [BitVec.toNat_ofNat] <;> omega

/-- Row numbers are told apart by their words. -/
theorem ofNat_inj (i k : Fin 1024) : BitVec.ofNat 32 i.val = BitVec.ofNat 32 k.val ↔ i = k := by
  refine ⟨fun h => ?_, fun h => h ▸ rfl⟩
  have h' := congrArg BitVec.toInt h
  rw [toInt_num, toInt_num] at h'
  exact Fin.ext (by omega)

/-! ## The kernel's way -/

/-- The fold of `min` from plus infinity is attained. -/
theorem fold_min_attained (d : Fin 1024 → EReal) :
    (∀ k, Finset.univ.fold min (⊤ : EReal) d ≤ d k) ∧ ∃ k, d k = Finset.univ.fold min (⊤ : EReal) d := by
  have hle : ∀ k, Finset.univ.fold min (⊤ : EReal) d ≤ d k := fun k =>
    (Finset.le_fold_min (Finset.univ.fold min (⊤ : EReal) d)).1 le_rfl |>.2 k (Finset.mem_univ k)
  refine ⟨hle, ?_⟩
  obtain ⟨k, -, hk⟩ := Finset.exists_min_image Finset.univ d ⟨0, Finset.mem_univ _⟩
  exact ⟨k, le_antisymm ((Finset.le_fold_min (d k)).2 ⟨le_top, fun j hj => hk j hj⟩) (hle k)⟩

/-- A fold of the signed minimum is at most every word met and is the start or one of the words. -/
theorem fold_minsi_spec {ι : Type} [DecidableEq ι] (g : ι → BitVec 32) (init : BitVec 32) (s : Finset ι) :
    (∀ i ∈ s, (s.fold IntOp.minsi init g).toInt ≤ (g i).toInt) ∧
      (s.fold IntOp.minsi init g = init ∨ ∃ i ∈ s, s.fold IntOp.minsi init g = g i) := by
  induction s using Finset.induction_on with
  | empty => exact ⟨fun i hi => absurd hi (Finset.notMem_empty i), Or.inl Finset.fold_empty⟩
  | insert a s ha ih =>
    rw [Finset.fold_insert ha]
    have hm := SortNet.toInt_minsi (g a) (s.fold IntOp.minsi init g)
    constructor
    · intro i hi
      rw [hm]
      rcases Finset.mem_insert.1 hi with rfl | hi
      · exact min_le_left _ _
      · exact (min_le_right _ _).trans (ih.1 i hi)
    · rcases le_total (g a).toInt (s.fold IntOp.minsi init g).toInt with h | h
      · exact Or.inr ⟨a, Finset.mem_insert_self a s, BitVec.eq_of_toInt_eq (hm.trans (min_eq_left h))⟩
      · have he := BitVec.eq_of_toInt_eq (hm.trans (min_eq_right h))
        exact ih.2.imp he.trans fun ⟨i, hi, hg⟩ => ⟨i, Finset.mem_insert_of_mem hi, he.trans hg⟩

/-- The signed minimum of the indices whose value is the minimum is the first smallest entry's number. -/
theorem kernel_index (d : Fin 1024 → EReal) : ∃ i, IsFirst d i ∧
    Finset.univ.fold IntOp.minsi (2147483647#32)
      (fun k : Fin 1024 => if d k = Finset.univ.fold min (⊤ : EReal) d then BitVec.ofNat 32 k.val else 1024#32)
      = BitVec.ofNat 32 i.val := by
  obtain ⟨hle, k₀, hk₀⟩ := fold_min_attained d
  generalize Finset.univ.fold min (⊤ : EReal) d = M at *
  obtain ⟨hw, hmem⟩ := fold_minsi_spec
    (fun k : Fin 1024 => if d k = M then BitVec.ofNat 32 k.val else 1024#32) (2147483647#32) Finset.univ
  generalize Finset.univ.fold IntOp.minsi (2147483647#32)
    (fun k : Fin 1024 => if d k = M then BitVec.ofNat 32 k.val else 1024#32) = w at *
  have hlow : ∀ k : Fin 1024, d k = M → w.toInt ≤ k.val := fun k hk => by
    have := hw k (Finset.mem_univ k)
    simpa only [if_pos hk, toInt_num] using this
  have hk0 := hlow k₀ hk₀
  have hlt := k₀.isLt
  rcases hmem with h | ⟨i, -, h⟩
  · exfalso
    rw [h, show (2147483647#32 : BitVec 32).toInt = 2147483647 by decide] at hk0
    omega
  · by_cases hi : d i = M
    · refine ⟨i, ⟨fun k => hi ▸ hle k, fun k hk => ?_⟩, by rw [h]; exact if_pos hi⟩
      have := hlow k (hk.trans hi)
      rw [h] at this
      simp only [if_pos hi, toInt_num] at this
      exact Fin.le_def.2 (by omega)
    · exfalso
      rw [h] at hk0
      simp only [if_neg hi, show (1024#32 : BitVec 32).toInt = 1024 by decide] at hk0
      omega

/-! ## The reference's way -/

open Cert.ReferenceIdeal Cert.ReferenceIdeal.Gen Cert.RefValue

/-- The order of (value, index) pairs: the smaller value, and on equal values the smaller index. -/
def Below (p q : EReal × BitVec 32) : Prop := p.1 < q.1 ∨ (p.1 = q.1 ∧ p.2.toInt ≤ q.2.toInt)

theorem Below.refl (p : EReal × BitVec 32) : Below p p := Or.inr ⟨rfl, le_rfl⟩

theorem Below.trans {p q r : EReal × BitVec 32} (h : Below p q) (h' : Below q r) : Below p r := by
  rcases h with h | ⟨h, hi⟩
  · rcases h' with h' | ⟨h', -⟩
    · exact Or.inl (h.trans h')
    · exact Or.inl (h' ▸ h)
  · rcases h' with h' | ⟨h', hi'⟩
    · exact Or.inl (h ▸ h')
    · exact Or.inr ⟨h.trans h', hi.trans hi'⟩

/-- jax's arg-min body returns one of its two pairs, and one below both. -/
theorem reducer_spec (p q : EReal × BitVec 32) :
    (reducer_argmin_f32_i32 (F := Ideal) p q = p ∨ reducer_argmin_f32_i32 (F := Ideal) p q = q) ∧
      Below (reducer_argmin_f32_i32 (F := Ideal) p q) p ∧ Below (reducer_argmin_f32_i32 (F := Ideal) p q) q := by
  obtain ⟨a, i⟩ := p
  obtain ⟨b, j⟩ := q
  have key : reducer_argmin_f32_i32 (F := Ideal) (a, i) (b, j)
      = if a < b ∨ (a = b ∧ i.toInt < j.toInt) then (a, i) else (b, j) := by
    simp only [reducer_argmin_f32_i32, Ideal.cmpf_def, Ideal.cmp, Scalar.select, WordCmp.cmpi_slt_eq]
    by_cases hl : a < b <;> by_cases he : a = b <;> by_cases hs : i.toInt < j.toInt <;>
      simp [hl, he, hs, IntOp.ori, IntOp.andi]
  rw [key]
  split
  · next h =>
    refine ⟨Or.inl rfl, Below.refl _, ?_⟩
    exact h.imp id fun h => ⟨h.1, h.2.le⟩
  · next h =>
    rw [not_or, not_lt, not_and, not_lt] at h
    refine ⟨Or.inr rfl, ?_, Below.refl _⟩
    rcases h.1.lt_or_eq with hl | he
    · exact Or.inl hl
    · exact Or.inr ⟨he, h.2 he.symm⟩

/-- The fold of that body over a list returns a pair met, and one below all. -/
theorem foldl_reducer_spec (L : List (EReal × BitVec 32)) (p : EReal × BitVec 32) :
    (L.foldl (reducer_argmin_f32_i32 (F := Ideal)) p ∈ p :: L) ∧
      ∀ q ∈ p :: L, Below (L.foldl (reducer_argmin_f32_i32 (F := Ideal)) p) q := by
  induction L generalizing p with
  | nil => exact ⟨List.mem_cons_self, fun q hq => by rw [List.mem_singleton.1 hq]; exact Below.refl _⟩
  | cons a L ih =>
    rw [List.foldl_cons]
    obtain ⟨hm, hb⟩ := ih (reducer_argmin_f32_i32 (F := Ideal) p a)
    obtain ⟨hr, hp, ha⟩ := reducer_spec p a
    have hb0 := hb _ List.mem_cons_self
    refine ⟨?_, fun q hq => ?_⟩
    · rcases List.mem_cons.1 hm with h | h
      · rw [h]
        rcases hr with hr | hr <;> rw [hr]
        · exact List.mem_cons_self
        · exact List.mem_cons_of_mem _ List.mem_cons_self
      · exact List.mem_cons_of_mem _ (List.mem_cons_of_mem _ h)
    · rcases List.mem_cons.1 hq with rfl | hq
      · exact hb0.trans hp
      · rcases List.mem_cons.1 hq with rfl | hq
        · exact hb0.trans ha
        · exact hb _ (List.mem_cons_of_mem _ hq)

/-- The pairs folded for row `r` are the row's values with their indices. -/
theorem mem_fiber (d : S16384x1024.Idx → EReal) (r : Fin 16384) (p : EReal × BitVec 32) :
    p ∈ Host.argReduceFiber (α := EReal) (β := BitVec 32) d (iotaInDim S16384x1024 32 1) reducesTo_S16384x1024_S16384_d1 (ix1 r)
      ↔ ∃ k : Fin 1024, p = (d (ix2 r k), BitVec.ofNat 32 k.val) := by
  have hdrop : ∀ (i : Fin 16384) (k : Fin 1024),
      reducesTo_S16384x1024_S16384_d1.drop (ix2 i k : S16384x1024.Idx) = ix1 r ↔ i = r := fun i k => by
    constructor
    · intro h
      have h' := congrArg (fun f : S16384.Idx => (f 0).val) h
      exact Fin.ext h'
    · rintro rfl
      refine funext fun c => ?_
      match c with
      | 0 => rfl
  rw [Host.argReduceFiber, List.mem_map]
  constructor
  · rintro ⟨n, hn, rfl⟩
    have hn := (List.mem_filter.1 hn).2
    generalize S16384x1024.rowMajor.symm n = j at hn ⊢
    rw [eq_ix2 j] at hn ⊢
    have := (hdrop _ _).1 (of_decide_eq_true hn)
    rw [this]
    exact ⟨_, rfl⟩
  · rintro ⟨k, rfl⟩
    refine ⟨S16384x1024.rowMajor (ix2 r k), List.mem_filter.2 ⟨List.mem_finRange _, decide_eq_true ?_⟩, ?_⟩
    · rw [Equiv.symm_apply_apply]; exact (hdrop r k).2 rfl
    · rw [Equiv.symm_apply_apply]; rfl

/-- A fold over pairs of a row's values with their indices, from (plus infinity, 0), ends at the first smallest entry's
    number. -/
theorem foldl_index (d : Fin 1024 → EReal) (L : List (EReal × BitVec 32))
    (hL : ∀ p, p ∈ L ↔ ∃ k : Fin 1024, p = (d k, BitVec.ofNat 32 k.val)) :
    ∃ i, IsFirst d i ∧ (L.foldl (reducer_argmin_f32_i32 (F := Ideal)) (⊤, 0#32)).2 = BitVec.ofNat 32 i.val := by
  obtain ⟨hm, hb⟩ := foldl_reducer_spec L (⊤, 0#32)
  generalize List.foldl (reducer_argmin_f32_i32 (F := Ideal)) (⊤, 0#32) L = w at *
  have hlow : ∀ k : Fin 1024, Below w (d k, BitVec.ofNat 32 k.val) := fun k =>
    hb _ (List.mem_cons_of_mem _ ((hL _).2 ⟨k, rfl⟩))
  have hval : ∀ k : Fin 1024, w.1 ≤ d k := fun k => (hlow k).elim le_of_lt fun h => h.1.le
  have hidx : ∀ k : Fin 1024, d k = w.1 → w.2.toInt ≤ k.val := fun k hk => by
    rcases hlow k with h | h
    · exact absurd h (by rw [hk]; exact lt_irrefl _)
    · rw [← toInt_num]; exact h.2
  rcases List.mem_cons.1 hm with h | h
  · refine ⟨0, ⟨fun k => ?_, fun k _ => Fin.zero_le k⟩, by rw [h]; rfl⟩
    rw [h] at hval
    rw [top_le_iff.1 (hval k)]
    exact le_top
  · obtain ⟨i, hi⟩ := (hL w).1 h
    rw [hi] at hval hidx
    refine ⟨i, ⟨hval, fun k hk => ?_⟩, by rw [hi]⟩
    have := hidx k hk
    rw [toInt_num] at this
    exact Fin.le_def.2 (by omega)

/-- An arg-min at an index is the second component of the fold of the body over the index's pairs. -/
theorem argMin_at {s t u : Shape} {axes : List (Fin s.rank)} (x : s.Idx → EReal) (y : s.Idx → BitVec 32)
    (vx : u.Idx → EReal) (vy : u.Idx → BitVec 32) (h : s.ReducesTo axes t) (hu : 0 < u.numel) (j : t.Idx)
    (ha : vx (Shape.Idx.first hu) = ⊤) (hb : vy (Shape.Idx.first hu) = 0#32) :
    argMin (F := Ideal) x y vx vy h hu j
      = ((Host.argReduceFiber (α := EReal) x y h j).foldl (reducer_argmin_f32_i32 (F := Ideal)) (⊤, 0#32)).2 := by
  unfold argMin
  rw [Ideal.argReduce_eq_reduce2, Host.reduce2_eq_foldl_fiber, ha, hb]

/-- The reference's arg-min of row `r` is the first smallest entry's number. -/
theorem nearest_spec (d : Vec Ideal S16384x1024 .f32) (r : Fin 16384) :
    ∃ i, IsFirst (fun k => d (ix2 r k)) i ∧ nearest (F := Ideal) d (ix1 r) = BitVec.ofNat 32 i.val := by
  obtain ⟨i, hi, hw⟩ := foldl_index (fun k => d (ix2 r k)) _ (mem_fiber d r)
  refine ⟨i, hi, ?_⟩
  unfold nearest
  rw [argMin_at (ha := ofBits_inf) (hb := rfl)]
  exact hw

/-- A compare of two row numbers, made a float: one where they are equal, else zero. -/
theorem uitofp_eq (i k : Fin 1024) :
    (FloatOps.uitofp .f32 (IntOp.cmpi .eq (BitVec.ofNat 32 i.val) (BitVec.ofNat 32 k.val)) : Ideal .f32)
      = if k = i then 1 else 0 := by
  rw [WordCmp.cmpi_eq_eq]
  change (((BitVec.ofBool _).toNat : ℝ) : EReal) = _
  by_cases h : k = i
  · subst h; simp
  · simp [ofNat_inj, h, Ne.symm h]

/-- The same after widening, read signed. -/
theorem sitofp_eq (i k : Fin 1024) :
    (FloatOps.sitofp .f32 (BitVec.setWidth 32 (IntOp.cmpi .eq (BitVec.ofNat 32 k.val) (BitVec.ofNat 32 i.val))) : Ideal .f32)
      = if k = i then 1 else 0 := by
  rw [WordCmp.cmpi_eq_eq]
  change (((BitVec.setWidth 32 (BitVec.ofBool _)).toInt : ℝ) : EReal) = _
  by_cases h : k = i
  · subst h; simp
  · simp [ofNat_inj, h]

/-- An entry of the reference's one-hot matrix of the numbers `w`. -/
theorem oneHot_at (w : Vec Ideal S16384 .i32) (r : Fin 16384) (k : Fin 1024) :
    oneHot (F := Ideal) w (ix2 r k)
      = (FloatOps.uitofp .f32 (IntOp.cmpi .eq (w (ix1 r)) (BitVec.ofNat 32 k.val)) : Ideal .f32) := by
  pointwise [oneHot]

/-- The reference's one-hot matrix of the nearest rows. -/
theorem oneHot_nearest (d : Vec Ideal S16384x1024 .f32) (r : Fin 16384) (k : Fin 1024) :
    oneHot (F := Ideal) (nearest d) (ix2 r k) = hot (fun k => d (ix2 r k)) k := by
  obtain ⟨i, hi, hn⟩ := nearest_spec d r
  rw [hot_eq hi, oneHot_at, hn, uitofp_eq]

end Cert.Hot

end
-- ==== Proof.KernelPay.lean ====
/-
  What the kernel's body computes at one grid point, entry by entry, at the ideal values, from its four blocks: the rows
  `f`, the codebook `e`, the rows' squared lengths `a` and the codebook's `b`.
-/
module

public import proofs.«01_k».proof.Proof.Gen.KernelIdeal.Skeleton
public import proofs.«01_k».proof.Proof.Hot

@[expose] public section

set_option maxRecDepth 16384

noncomputable section

namespace Cert.KernelPay

open Cert.KernelIdeal Cert.KernelIdeal.Gen Cert.Hot
open Idealize.ShloMosaic Idealize.ShloMosaic.TcCoe Idealize.SL.Sem

variable (f : Vec Ideal S2048x64 .f32) (e : Vec Ideal S1024x64 .f32) (a : Vec Ideal S2048x1 .f32) (b : Vec Ideal S1x1024 .f32)

/-- The squared distance of the block's row `r` from codebook row `k`. -/
def blockDist (r : Fin 2048) (k : Fin 1024) : EReal :=
  a (ix2 r 0) + b (ix2 0 k) - Ideal.ofBits .f32 0x40000000#32 * ∑ l : Fin 64, f (ix2 r l) * e (ix2 k l)

/-- The one-hot block: in row `r` a one at the first nearest codebook row. -/
theorem enc_at (r : Fin 2048) (k : Fin 1024) :
    k0_pay8 (F := Ideal) f e a b (ix2 r k) = hot (blockDist f e a b r) k := by
  obtain ⟨i, hi, hw⟩ := kernel_index (blockDist f e a b r)
  rw [hot_eq hi, ← sitofp_eq, ← hw]
  pointwise [k0_pay8, k0_pay7, blockDist]
  rw [ofBits_inf]

/-- The block of chosen codebook rows: the one-hot block times the codebook. -/
theorem rows_at (r : Fin 2048) (c : Fin 64) :
    k0_pay9 (F := Ideal) f e a b (ix2 r c) = ∑ k : Fin 1024, hot (blockDist f e a b r) k * e (ix2 k c) := by
  pointwise [k0_pay9]
  simp only [enc_at]

/-- The block of the quantized array. -/
theorem quantized_at (q : Vec Ideal S2048x64 .f32) (r : Fin 2048) (c : Fin 64) :
    k0_pay3 (F := Ideal) (k0_pay7 (F := Ideal) f) q (ix2 r c) = f (ix2 r c) + (q (ix2 r c) - f (ix2 r c)) := by
  pointwise [k0_pay3, k0_pay7]

/-- The running sum of squared differences gains the block's. -/
theorem sse_at (s : EReal) :
    k0_pay1 (F := Ideal) s (k0_pay10 (F := Ideal) f e a b)
      = s + ∑ r : Fin 2048, ∑ c : Fin 64, (k0_pay9 (F := Ideal) f e a b (ix2 r c) - f (ix2 r c))
          * (k0_pay9 (F := Ideal) f e a b (ix2 r c) - f (ix2 r c)) := by
  pointwise [k0_pay10, k0_pay1, k0_pay7]

/-- The running counts gain the block's column sums. -/
theorem count_at (enc : Vec Ideal S2048x1024 .f32) (cnt : Vec Ideal S1x1024 .f32) (k : Fin 1024) :
    k0_pay2 (F := Ideal) enc cnt (ix2 0 k) = cnt (ix2 0 k) + ∑ r : Fin 2048, enc (ix2 r k) := by
  pointwise [k0_pay2]

/-- The counts start at zero. -/
theorem count_zero (k : Fin 1024) : k0_pay6 (F := Ideal) (ix2 0 k) = (0 : EReal) := by
  pointwise [k0_pay6]

/-- The loss the last point stores. -/
theorem loss_at (s : EReal) (j : S1x1.Idx) :
    k0_pay4 (F := Ideal) s j
      = Ideal.div s (Ideal.ofBits .f32 0x49800000#32)
          + Ideal.ofBits .f32 0x3E800000#32 * Ideal.div s (Ideal.ofBits .f32 0x49800000#32) := by
  pointwise [k0_pay4]

/-- The perplexity the last point stores. -/
theorem perplexity_at (cnt : Vec Ideal S1x1024 .f32) (j : S1x1.Idx) :
    k0_pay5 (F := Ideal) cnt j
      = Ideal.exp (0 - ∑ k : Fin 1024, cnt (ix2 0 k) * Ideal.ofBits .f32 0x38800000#32
          * Ideal.log (cnt (ix2 0 k) * Ideal.ofBits .f32 0x38800000#32 + Ideal.ofBits .f32 0x2EDBE6FF#32)) := by
  pointwise [k0_pay5]

/-- Multiplying by 2⁻¹⁴ is dividing by 16384. -/
theorem mul_share (s : EReal) :
    s * Ideal.ofBits .f32 0x38800000#32 = Ideal.div s (Ideal.ofBits .f32 0x46800000#32) := by
  have h1 : Ideal.ofBits .f32 0x38800000#32 = ((1 / 16384 : ℝ) : EReal) := by
    simp [Ideal.ofBits, Ideal.ieee]
    rw [← EReal.coe_mul]
    norm_num
  have h2 : Ideal.ofBits .f32 0x46800000#32 = ((16384 : ℝ) : EReal) := by
    simp [Ideal.ofBits, Ideal.ieee]
    rw [← EReal.coe_mul]
    norm_num
  rw [h1, h2, Ideal.div_coe (by norm_num)]

end Cert.KernelPay

end
-- ==== Proof.RefAt.lean ====
/-
  The reference's arrays entry by entry, at the ideal values.
-/
module

public import proofs.«01_k».proof.Proof.Hot
public import Idealize.ShloMosaic.Lib.Pipeline.ValueKit

@[expose] public section

set_option maxRecDepth 16384

noncomputable section

namespace Cert.RefAt

open Cert.ReferenceIdeal Cert.ReferenceIdeal.Gen Cert.RefValue
open Idealize.ShloMosaic Idealize.SL.Sem

/-- A row's squared length. -/
theorem normX_at (x : Vec Ideal S16x64x32x32 .f32) (i : Fin 16384) :
    normX (F := Ideal) x (ix1 i) = ∑ l : Fin 64, flat (F := Ideal) x (ix2 i l) * flat (F := Ideal) x (ix2 i l) := by
  pointwise [normX]

/-- A codebook row's squared length. -/
theorem normE_at (e : Vec Ideal S1024x64 .f32) (k : Fin 1024) :
    normE (F := Ideal) e (ix1 k) = ∑ l : Fin 64, e (ix2 k l) * e (ix2 k l) := by
  pointwise [normE]

/-- The squared distance of row `i` from codebook row `k`. -/
theorem sqDist_at (x : Vec Ideal S16x64x32x32 .f32) (e : Vec Ideal S1024x64 .f32) (i : Fin 16384) (k : Fin 1024) :
    sqDist (F := Ideal) x e (ix2 i k)
      = normX (F := Ideal) x (ix1 i) + normE (F := Ideal) e (ix1 k)
          - Ideal.ofBits .f32 0x40000000#32 * ∑ l : Fin 64, flat (F := Ideal) x (ix2 i l) * e (ix2 k l) := by
  pointwise [sqDist, prod]

/-- The flattened rows against the channels-last array. -/
theorem flat_at (x : Vec Ideal S16x64x32x32 .f32) (b : Fin 16) (u v : Fin 32) (c : Fin 64)
    (h : b.val * 1024 + u.val * 32 + v.val < 16384) :
    flat (F := Ideal) x (ix2 ⟨b.val * 1024 + u.val * 32 + v.val, h⟩ c) = nhwc (F := Ideal) x (ix4 b u v c) := by
  pointwise [flat]
  blk_ext []

/-- The chosen row, entry by entry. -/
theorem rows_at (enc : Vec Ideal S16384x1024 .f32) (e : Vec Ideal S1024x64 .f32) (i : Fin 16384) (c : Fin 64) :
    rows (F := Ideal) enc e (ix2 i c) = ∑ k : Fin 1024, enc (ix2 i k) * e (ix2 k c) := by
  pointwise [rows]

/-- The chosen rows in channels-last form. -/
theorem chosen_at (enc : Vec Ideal S16384x1024 .f32) (e : Vec Ideal S1024x64 .f32) (b : Fin 16) (u v : Fin 32) (c : Fin 64)
    (h : b.val * 1024 + u.val * 32 + v.val < 16384) :
    chosen (F := Ideal) enc e (ix4 b u v c) = rows (F := Ideal) enc e (ix2 ⟨b.val * 1024 + u.val * 32 + v.val, h⟩ c) := by
  pointwise [chosen]

/-- The quantized array, entry by entry. -/
theorem quantized_at (q n : Vec Ideal S16x32x32x64 .f32) (b : Fin 16) (u v : Fin 32) (c : Fin 64) :
    quantized (F := Ideal) q n (ix4 b c u v) = n (ix4 b u v c) + (q (ix4 b u v c) - n (ix4 b u v c)) := by
  pointwise [quantized]

/-- A sum over the pixels of all images is the sum over the flattened rows. -/
theorem sum_rows (f : Fin 16384 → EReal) :
    ∑ i : Fin 16384, f i
      = ∑ b : Fin 16, ∑ u : Fin 32, ∑ v : Fin 32, f ⟨b.val * 1024 + u.val * 32 + v.val, by omega⟩ := by
  rw [Fin.sum_univ_tiles 16 1024 rfl f]
  refine Finset.sum_congr rfl fun b _ => ?_
  rw [Fin.sum_univ_tiles 32 32 rfl]
  refine Finset.sum_congr rfl fun u _ => Finset.sum_congr rfl fun v _ => congrArg f (Fin.ext ?_)
  simp only [Nat.add_assoc]

/-- The host's sum of a whole channels-last array. -/
theorem reduceAll (w : S16x32x32x64.Idx → EReal) :
    Ideal.hostReduceAdd reducesTo_S16x32x32x64_S_d0_1_2_3 w 0 ix0
      = ∑ b : Fin 16, ∑ u : Fin 32, ∑ v : Fin 32, ∑ c : Fin 64, w (ix4 b u v c) := by
  unfold Ideal.hostReduceAdd
  rw [zero_add, Finset.filter_true_of_mem fun i _ => funext fun a => a.elim0, sum_idx4]

/-- The mean squared difference of two channels-last arrays, over their flattened rows. -/
theorem mse_at (q n : Vec Ideal S16x32x32x64 .f32) (Q N : S16384x64.Idx → EReal)
    (hq : ∀ (b : Fin 16) (u v : Fin 32) (c : Fin 64) (h : b.val * 1024 + u.val * 32 + v.val < 16384),
      q (ix4 b u v c) = Q (ix2 ⟨b.val * 1024 + u.val * 32 + v.val, h⟩ c))
    (hn : ∀ (b : Fin 16) (u v : Fin 32) (c : Fin 64) (h : b.val * 1024 + u.val * 32 + v.val < 16384),
      n (ix4 b u v c) = N (ix2 ⟨b.val * 1024 + u.val * 32 + v.val, h⟩ c)) :
    mse (F := Ideal) q n ix0
      = Ideal.div (∑ i : Fin 16384, ∑ c : Fin 64, (Q (ix2 i c) - N (ix2 i c)) * (Q (ix2 i c) - N (ix2 i c)))
          (Ideal.ofBits .f32 0x49800000#32) := by
  pointwise [mse]
  rw [reduceAll, sum_rows]
  congr 1
  refine Finset.sum_congr rfl fun b _ => Finset.sum_congr rfl fun u _ => Finset.sum_congr rfl fun v _ =>
    Finset.sum_congr rfl fun c _ => ?_
  pointwise
  rw [hq b u v c (by omega), hn b u v c (by omega)]

/-- The loss, from the mean squared difference. -/
theorem loss_at (q n : Vec Ideal S16x32x32x64 .f32) :
    loss (F := Ideal) q n ix0
      = mse (F := Ideal) q n ix0 + Ideal.ofBits .f32 0x3E800000#32 * mse (F := Ideal) q n ix0 := by
  pointwise [loss]

/-- The share of codebook row `k`. -/
theorem share_at (enc : Vec Ideal S16384x1024 .f32) (k : Fin 1024) :
    share (F := Ideal) enc (ix1 k) = Ideal.div (∑ i : Fin 16384, enc (ix2 i k)) (Ideal.ofBits .f32 0x46800000#32) := by
  pointwise [share]

/-- The perplexity, from the shares. -/
theorem perplexity_at (enc : Vec Ideal S16384x1024 .f32) :
    perplexity (F := Ideal) enc ix0
      = Ideal.exp (-∑ k : Fin 1024, share (F := Ideal) enc (ix1 k)
          * Ideal.log (share (F := Ideal) enc (ix1 k) + Ideal.ofBits .f32 0x2EDBE6FF#32)) := by
  pointwise [perplexity]

end Cert.RefAt

end
-- ==== Proof.Entry.lean ====
/-
  What the kernel's region finds in its arrays: the reference's flattened rows, the squared lengths of those rows and of
  the codebook's, and the codebook. `X` and `E` are the two arguments as the run finds them.
-/
module

public import proofs.«01_k».proof.Proof.Gen.KernelIdeal.Frame
public import proofs.«01_k».proof.Proof.KernelPay
public import proofs.«01_k».proof.Proof.RefAt
public import Idealize.ShloMosaic.Lib.Pipeline.ValueKit

@[expose] public section

set_option maxRecDepth 16384

noncomputable section

namespace Cert.Entry

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ)

/-- The array argument of device `c`. -/
abbrev X (c : Dev nD) : Vec Ideal Cert.ReferenceIdeal.S16x64x32x32 .f32 := m ((c : Thread nD τ).loc main_arg0)

/-- The codebook argument of device `c`. -/
abbrev E (c : Dev nD) : Vec Ideal Cert.ReferenceIdeal.S1024x64 .f32 := m ((c : Thread nD τ).loc main_arg1)

/-- The region finds the flattened rows in its first window's array. -/
theorem V_rows (c : Dev nD) (i : Fin 16384) (l : Fin 64) :
    (V m c main_call0_v1 : S16384x64.Idx → EReal) (ix2 i l) = Cert.RefValue.flat (F := Ideal) (X m c) (ix2 i l) := by
  have h : V m c main_call0_v1 = Cert.RefValue.flat (F := Ideal) (X m c) := by
    entry_read
    rfl
  rw [h]

/-- Their squared lengths, as a column, in its second's. -/
theorem V_normX (c : Dev nD) (i : Fin 16384) :
    (V m c main_call0_v4 : S16384x1.Idx → EReal) (ix2 i 0) = Cert.RefValue.normX (F := Ideal) (X m c) (ix1 i) := by
  have h : V m c main_call0_v4 = broadcastInDim S16384x1 ![0] bcast_S16384_S16384x1_0 (Cert.RefValue.normX (F := Ideal) (X m c)) := by
    unfold V
    after_results
    rfl
  rw [h]
  pointwise

/-- The codebook rows' squared lengths, as a row, in its third's. -/
theorem V_normE (c : Dev nD) (k : Fin 1024) :
    (V m c main_call0_v7 : S1x1024.Idx → EReal) (ix2 0 k) = Cert.RefValue.normE (F := Ideal) (E m c) (ix1 k) := by
  have h : V m c main_call0_v7 = shapeCast S1x1024 (Cert.RefValue.normE (F := Ideal) (E m c)) shapeCasts_S1024_S1x1024 := by
    entry_read
    rfl
  rw [h]
  pointwise
  blk_ext []

end Cert.Entry

end
-- ==== Proof.Arrays.lean ====
/-
  What the kernel's region leaves in its four result arrays, in the reference's terms: the one-hot matrix of the nearest
  codebook rows, the quantized rows, the loss and the perplexity.
-/
module

public import proofs.«01_k».proof.Proof.Entry
public import proofs.«01_k».proof.Proof.RefRun

@[expose] public section

set_option maxRecDepth 16384

noncomputable section

namespace Cert.Arrays

open Cert.KernelIdeal Cert.KernelIdeal.Gen Cert.Entry
open Idealize.ShloMosaic Idealize.ShloMosaic.TcCoe Idealize.ShloMosaic.StableHlo Idealize.SL.Sem

variable (m : (ℓ : Loc nD τ sig) → Buf (Elt Ideal) ℓ)

/-- The block each window holds at point `t`. -/
theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] :=
  (by decide +kernel : ∀ t : Fin grid0.N, _)

/-- The array row that is row `r` of point `t`'s block. -/
def row (t : Fin cfg0.N) (r : Fin 2048) : Fin 16384 :=
  ⟨t.val * 2048 + r.val, by have := lt_of_lt_of_eq t.isLt N_0; omega⟩

/-- The reference's one-hot matrix at this run's arguments. -/
abbrev enc (c : Dev nD) : Vec Ideal Cert.ReferenceIdeal.S16384x1024 .f32 := Cert.RefRun.encOf (F := Ideal) (X m c) (E m c)

/-- The block of flattened rows at point `t`. -/
theorem blk_rows (c : Dev nD) (t : Fin cfg0.N) (r : Fin 2048) (l : Fin 64) :
    (iblk m c 0 t : S2048x64.Idx → EReal) (ix2 r l) = Cert.RefValue.flat (F := Ideal) (X m c) (ix2 (row t r) l) := by
  rw [← V_rows]
  blk_point [iblk, row, idx t]

/-- The block of squared lengths at point `t`. -/
theorem blk_normX (c : Dev nD) (t : Fin cfg0.N) (r : Fin 2048) :
    (iblk m c 1 t : S2048x1.Idx → EReal) (ix2 r 0) = Cert.RefValue.normX (F := Ideal) (X m c) (ix1 (row t r)) := by
  rw [← V_normX]
  blk_simp [iblk]
  refine congrArg (V m c main_call0_v4) ?_
  blk_ext [row, idx t]

/-- The codebook's squared lengths, whole at every point. -/
theorem blk_normE (c : Dev nD) (t : Fin cfg0.N) (k : Fin 1024) :
    (iblk m c 2 t : S1x1024.Idx → EReal) (ix2 0 k) = Cert.RefValue.normE (F := Ideal) (E m c) (ix1 k) := by
  rw [← V_normE]
  blk_point [iblk, idx t]

/-- The codebook, whole at every point. -/
theorem blk_code (c : Dev nD) (t : Fin cfg0.N) (k : Fin 1024) (l : Fin 64) :
    (iblk m c 3 t : S1024x64.Idx → EReal) (ix2 k l) = E m c (ix2 k l) := by
  blk_point [iblk, V, idx t]

/-- A block's distances are the reference's. -/
theorem dist_eq (c : Dev nD) (t : Fin cfg0.N) (r : Fin 2048) :
    Cert.KernelPay.blockDist (iblk m c 0 t) (iblk m c 3 t) (iblk m c 1 t) (iblk m c 2 t) r
      = fun k => Cert.RefValue.sqDist (F := Ideal) (X m c) (E m c) (ix2 (row t r) k) := by
  funext k
  rw [Cert.RefAt.sqDist_at, ← blk_normX m c t, ← blk_normE m c t]
  unfold Cert.KernelPay.blockDist
  simp only [← blk_rows m c t]
  congr 2
  exact Finset.sum_congr rfl fun l _ => by rw [blk_code]

/-- The one-hot block of point `t` is the reference's one-hot matrix there. -/
theorem enc_point (c : Dev nD) (t : Fin cfg0.N) (r : Fin 2048) (k : Fin 1024) :
    (k0_pay8 (F := Ideal) (iblk m c 0 t) (iblk m c 3 t) (iblk m c 1 t) (iblk m c 2 t) : S2048x1024.Idx → EReal) (ix2 r k)
      = enc m c (ix2 (row t r) k) := by
  rw [Cert.KernelPay.enc_at, dist_eq]
  exact (Cert.Hot.oneHot_nearest _ _ _).symm

/-- The chosen rows of point `t` are the reference's. -/
theorem rows_point (c : Dev nD) (t : Fin cfg0.N) (r : Fin 2048) (l : Fin 64) :
    (k0_pay9 (F := Ideal) (iblk m c 0 t) (iblk m c 3 t) (iblk m c 1 t) (iblk m c 2 t) : S2048x64.Idx → EReal) (ix2 r l)
      = Cert.RefValue.rows (F := Ideal) (enc m c) (E m c) (ix2 (row t r) l) := by
  rw [Cert.KernelPay.rows_at, Cert.RefAt.rows_at]
  refine Finset.sum_congr rfl fun k _ => ?_
  rw [blk_code, ← Cert.KernelPay.enc_at, enc_point]

end Cert.Arrays

end
-- ==== Proof.Final.lean ====
/-
  The four result arrays when the region is over, in the reference's terms.
-/
module

public import proofs.«01_k».proof.Proof.Arrays
public import Idealize.ShloMosaic.Lib.Pipeline.ReadBack

@[expose] public section

set_option maxRecDepth 16384

noncomputable section

namespace Cert.Final

open Cert.KernelIdeal Cert.KernelIdeal.Gen Cert.Entry Cert.Arrays
open Idealize.ShloMosaic Idealize.ShloMosaic.TcCoe Idealize.ShloMosaic.StableHlo Idealize.SL.Sem

variable (m : (ℓ : Loc nD τ sig) → Buf (Elt Ideal) ℓ)

/-- The chosen codebook rows at this run's arguments. -/
abbrev chosenRows (c : Dev nD) : Vec Ideal Cert.ReferenceIdeal.S16384x64 .f32 :=
  Cert.RefValue.rows (F := Ideal) (enc m c) (E m c)

/-- The flattened rows at this run's arguments. -/
abbrev flatRows (c : Dev nD) : Vec Ideal Cert.ReferenceIdeal.S16384x64 .f32 := Cert.RefValue.flat (F := Ideal) (X m c)

/-- What every point leaves in the one-hot block. -/
theorem enc_out (c : Dev nD) (t : Fin cfg0.N) : (outsAt0 m c t.val t.isLt).1
    = k0_pay8 (F := Ideal) (iblk m c 0 t) (iblk m c 3 t) (iblk m c 1 t) (iblk m c 2 t) := by
  by_cases h0 : t.val % 8 = 0
  · rw [outsAt0_A m c t h0 (by omega)]; frame_out
  · by_cases h1 : t.val % 8 = 7
    · rw [outsAt0_C m c t h0 h1]; frame_out
    · rw [outsAt0_B m c t h0 h1]; frame_out

/-- What every point leaves in the block of quantized rows. -/
theorem quantized_out (c : Dev nD) (t : Fin cfg0.N) : (outsAt0 m c t.val t.isLt).2.1
    = k0_pay3 (F := Ideal) (k0_pay7 (F := Ideal) (iblk m c 0 t))
        (k0_pay9 (F := Ideal) (iblk m c 0 t) (iblk m c 3 t) (iblk m c 1 t) (iblk m c 2 t)) := by
  by_cases h0 : t.val % 8 = 0
  · rw [outsAt0_A m c t h0 (by omega)]; frame_out
  · by_cases h1 : t.val % 8 = 7
    · rw [outsAt0_C m c t h0 h1]; frame_out
    · rw [outsAt0_B m c t h0 h1]; frame_out

/-- The one-hot array is the reference's. -/
theorem enc_final (c : Dev nD) : (dats m 0 c).arrAt 4 (cfgs 0).N = enc m c := by
  refine (dats m 0 c).arrAt_eq_of_covers 4 _ (by decide +kernel) fun t _ y => ?_
  blk_simp
  rw [after0_4, enc_out]
  idx_vars y
  refine (enc_point m c t _ _).trans (congrArg (enc m c) ?_)
  blk_ext [row, idx t]

/-- The array of quantized rows is the rows plus what separates them from the chosen ones. -/
theorem quantized_final (c : Dev nD) : (dats m 0 c).arrAt 5 (cfgs 0).N
    = fun i => flatRows m c i + (chosenRows m c i - flatRows m c i) := by
  refine (dats m 0 c).arrAt_eq_of_covers 5 _ (by decide +kernel) fun t _ y => ?_
  blk_simp
  rw [after0_5, quantized_out]
  idx_vars y
  rw [Cert.KernelPay.quantized_at, rows_point, blk_rows]
  refine congrArg (fun i => flatRows m c i + (chosenRows m c i - flatRows m c i)) ?_
  blk_ext [row, idx t]

/-- The squared differences of row `i`, summed. -/
def sqRow (c : Dev nD) (i : Fin 16384) : EReal :=
  ∑ l : Fin 64, (chosenRows m c (ix2 i l) - flatRows m c (ix2 i l)) * (chosenRows m c (ix2 i l) - flatRows m c (ix2 i l))

/-- A sum over the points' blocks of rows is the sum over all rows. -/
theorem sum_blocks (f : Fin 16384 → EReal) : ∑ t : Fin cfg0.N, ∑ r : Fin 2048, f (row t r) = ∑ i : Fin 16384, f i :=
  Fin.sum_mul_add_congr (S := cfg0.N) (fun _ _ _ => rfl) (by rw [show cfg0.N = 8 from N_0])

/-- A point's column sums are the reference's over its rows. -/
theorem count_point (c : Dev nD) (t : Fin cfg0.N) (cnt : Vec Ideal S1x1024 .f32) (j : S1x1024.Idx) :
    k0_pay2 (F := Ideal) (k0_pay8 (F := Ideal) (iblk m c 0 t) (iblk m c 3 t) (iblk m c 1 t) (iblk m c 2 t)) cnt j
      = cnt j + ∑ r : Fin 2048, enc m c (ix2 (row t r) (j 1)) := by
  idx_vars j
  obtain rfl : j0 = 0 := Subsingleton.elim _ _
  rw [Cert.KernelPay.count_at]
  simp only [enc_point]

/-- The counts after the last point. -/
theorem count_last (c : Dev nD) (k : Fin 1024) :
    ((outsAt0 m c t0_7.val t0_7.isLt).2.2.2.2.1 : S1x1024.Idx → EReal) (ix2 0 k) = ∑ i : Fin 16384, enc m c (ix2 i k) := by
  rw [Pipeline.eq_sum_fin_of_reset_step_apply_last (fun n h => (outsAt0 m c n h).2.2.2.2.1) 8 (fun _ => 0)
    (fun t j => ∑ r : Fin 2048, enc m c (ix2 (row t r) (j 1)))
    (fun t h j => by
      rw [outsAt0_A m c t h (by omega)]; frame_out
      rw [count_point]
      idx_vars j
      obtain rfl : j0 = 0 := Subsingleton.elim _ _
      rw [Cert.KernelPay.count_zero])
    (fun t h j => by
      rw [← count_point]
      by_cases h1 : t.val % 8 = 7
      · rw [outsAt0_C m c t h h1]; frame_out
        rw [read_unread_whole]
      · rw [outsAt0_B m c t h h1]; frame_out
        rw [read_unread_whole]) (le_of_eq N_0) t0_7 rfl (ix2 0 k), zero_add]
  exact sum_blocks fun i => enc m c (ix2 i k)

/-- A point's sum of squared differences is the reference's over its rows. -/
theorem sse_point (c : Dev nD) (t : Fin cfg0.N) (s : EReal) :
    k0_pay1 (F := Ideal) s (k0_pay10 (F := Ideal) (iblk m c 0 t) (iblk m c 3 t) (iblk m c 1 t) (iblk m c 2 t))
      = s + ∑ r : Fin 2048, sqRow m c (row t r) := by
  rw [Cert.KernelPay.sse_at]
  simp only [rows_point, blk_rows, sqRow]

/-- A one-element shape has one index. -/
theorem idx_one (i j : S1.Idx) : i = j := by
  funext a
  match a with
  | 0 => exact Subsingleton.elim (α := Fin 1) _ _

/-- The sum of squared differences after the last point. -/
theorem sse_last (c : Dev nD) (j : S1.Idx) :
    ((outsAt0 m c t0_7.val t0_7.isLt).2.2.2.2.2 : S1.Idx → EReal) j = ∑ i : Fin 16384, sqRow m c i := by
  rw [Pipeline.eq_sum_fin_of_reset_step_apply_last (fun n h => (outsAt0 m c n h).2.2.2.2.2) 8 (fun _ => 0)
    (fun t _ => ∑ r : Fin 2048, sqRow m c (row t r))
    (fun t h j => by
      rw [outsAt0_A m c t h (by omega)]; frame_out
      rw [sse_point]
      exact congrArg (· + _) Ideal.ofBits_zero_f32)
    (fun t h j => by
      obtain rfl := idx_one (Shape.Idx.first (s := S1) (by decide)) j
      rw [← sse_point]
      by_cases h1 : t.val % 8 = 7
      · rw [outsAt0_C m c t h h1]; frame_out
        rw [read_unread_whole]
      · rw [outsAt0_B m c t h h1]; frame_out
        rw [read_unread_whole]) (le_of_eq N_0) t0_7 rfl j, zero_add]
  exact sum_blocks (sqRow m c)

/-- The last point's loss is computed from the sum it leaves. -/
theorem loss_out (c : Dev nD) (t : Fin cfg0.N) (h0 : ¬t.val % 8 = 0) (h1 : t.val % 8 = 7) (i : S1.Idx) :
    (outsAt0 m c t.val t.isLt).2.2.1 = k0_pay4 (F := Ideal) ((outsAt0 m c t.val t.isLt).2.2.2.2.2 i) := by
  rw [outsAt0_C m c t h0 h1]
  frame_out

/-- The last point's perplexity is computed from the counts it leaves. -/
theorem perplexity_out (c : Dev nD) (t : Fin cfg0.N) (h0 : ¬t.val % 8 = 0) (h1 : t.val % 8 = 7) :
    (outsAt0 m c t.val t.isLt).2.2.2.1 = k0_pay5 (F := Ideal) (outsAt0 m c t.val t.isLt).2.2.2.2.1 := by
  rw [outsAt0_C m c t h0 h1]
  frame_out

/-- The mean squared difference. -/
def mse (c : Dev nD) : EReal := Ideal.div (∑ i : Fin 16384, sqRow m c i) (Ideal.ofBits .f32 0x49800000#32)

/-- The loss array. -/
theorem loss_final (c : Dev nD) : (dats m 0 c).arrAt 6 (cfgs 0).N
    = fun _ => mse m c + Ideal.ofBits .f32 0x3E800000#32 * mse m c := by
  refine (dats m 0 c).arrAt_eq_of_after_last 6 t0_7 (by decide +kernel) _ fun j => ?_
  blk_simp
  rw [after0_6, loss_out m c t0_7 (by decide) (by decide) (ix1 0), Cert.KernelPay.loss_at, sse_last, mse]

/-- The perplexity array. -/
theorem perplexity_final (c : Dev nD) : (dats m 0 c).arrAt 7 (cfgs 0).N
    = fun _ => Cert.RefValue.perplexity (F := Ideal) (enc m c) ix0 := by
  refine (dats m 0 c).arrAt_eq_of_after_last 7 t0_7 (by decide +kernel) _ fun j => ?_
  blk_simp
  rw [after0_7, perplexity_out m c t0_7 (by decide) (by decide), Cert.KernelPay.perplexity_at, Cert.RefAt.perplexity_at,
    zero_sub]
  simp only [count_last, Cert.KernelPay.mul_share, Cert.RefAt.share_at]

end Cert.Final

end
-- ==== Proof.KernelRun.lean ====
/-
  The kernel program's run: what its four results are when it is over, in the reference's terms.
-/
module

public import proofs.«01_k».proof.Proof.Final

@[expose] public section

set_option maxRecDepth 16384

noncomputable section

namespace Cert.KernelRun

open Cert.KernelIdeal Cert.KernelIdeal.Gen Cert.Entry Cert.Arrays Cert.Final
open Idealize.ShloMosaic Idealize.ShloMosaic.TcCoe Idealize.ShloMosaic.StableHlo Idealize.SL.Sem

variable (m : (ℓ : Loc nD τ sig) → Buf (Elt Ideal) ℓ) (ρ : Dev nD → PrngReg)

/-- A buffer as the operations after the region leave it. -/
abbrev tail (c : Dev nD) (b : Ref sig .tc) : Buf (Elt Ideal) ((c.tc : Thread nD τ).loc b) :=
  Pipeline.afterTail₀ cfgs (dats m) 0 (V0 m) [hostOps1] c b

/-- The quantized result is its array's rows, cast to four axes and transposed back. -/
theorem tail_quantized (c : Dev nD) : tail m c main_v0_0 = transpose S16x64x32x32 [0, 3, 1, 2]
    (shapeCast S16x32x32x64 ((dats m 0 c).arrAt 5 (cfgs 0).N : Vec Ideal S16384x64 .f32) shapeCasts_S16384x64_S16x32x32x64)
    transposes_S16x32x32x64_S16x64x32x32_0_3_1_2 := by
  unfold tail Pipeline.afterTail₀
  rw [← Pipeline.withArrays_arr spec0 launch0.win.arr_inj c (V0 m c) (fun w => (dats m 0 c).arrAt w (cfgs 0).N) 5]
  after_results
  rfl

/-- The loss is its array's one element. -/
theorem tail_loss (c : Dev nD) : tail m c main_v0_1
    = shapeCast S_ ((dats m 0 c).arrAt 6 (cfgs 0).N : Vec Ideal S1x1 .f32) shapeCasts_S1x1_S_ := by
  unfold tail Pipeline.afterTail₀
  rw [← Pipeline.withArrays_arr spec0 launch0.win.arr_inj c (V0 m c) (fun w => (dats m 0 c).arrAt w (cfgs 0).N) 6]
  entry_read
  rfl

/-- The perplexity is its array's one element. -/
theorem tail_perplexity (c : Dev nD) : tail m c main_v0_2
    = shapeCast S_ ((dats m 0 c).arrAt 7 (cfgs 0).N : Vec Ideal S1x1 .f32) shapeCasts_S1x1_S_ := by
  unfold tail Pipeline.afterTail₀
  rw [← Pipeline.withArrays_arr spec0 launch0.win.arr_inj c (V0 m c) (fun w => (dats m 0 c).arrAt w (cfgs 0).N) 7]
  entry_read
  rfl

/-- A row's entry in the four-axis array it is cast and transposed to. -/
theorem unflat_at (w : Vec Ideal S16384x64 .f32) (b : Fin 16) (l : Fin 64) (u v : Fin 32)
    (h : b.val * 1024 + u.val * 32 + v.val < 16384) :
    transpose S16x64x32x32 [0, 3, 1, 2] (shapeCast S16x32x32x64 w shapeCasts_S16384x64_S16x32x32x64)
      transposes_S16x32x32x64_S16x64x32x32_0_3_1_2 (ix4 b l u v)
      = w (ix2 ⟨b.val * 1024 + u.val * 32 + v.val, h⟩ l) := by
  pointwise

/-- The quantized result is the reference's. -/
theorem quantized_eq (c : Dev nD) : tail m c main_v0_0
    = Cert.RefValue.quantized (F := Ideal) (Cert.RefValue.chosen (F := Ideal) (enc m c) (E m c)) (Cert.RefValue.nhwc (F := Ideal) (X m c)) := by
  rw [tail_quantized, quantized_final]
  funext j
  idx_vars j
  rw [Cert.RefAt.quantized_at, Cert.RefAt.chosen_at _ _ _ _ _ _ (by omega), ← Cert.RefAt.flat_at _ _ _ _ _ (by omega)]
  exact unflat_at _ _ _ _ _ _

/-- The loss is the reference's. -/
theorem loss_eq (c : Dev nD) : tail m c main_v0_1
    = Cert.RefValue.loss (F := Ideal) (Cert.RefValue.chosen (F := Ideal) (enc m c) (E m c)) (Cert.RefValue.nhwc (F := Ideal) (X m c)) := by
  rw [tail_loss, loss_final]
  funext j
  obtain rfl : j = ix0 := funext fun a => a.elim0
  rw [Cert.RefAt.loss_at, Cert.RefAt.mse_at _ _ (chosenRows m c) (flatRows m c)
    (fun b u v l h => Cert.RefAt.chosen_at _ _ b u v l h) (fun b u v l h => (Cert.RefAt.flat_at _ b u v l h).symm)]
  rfl

/-- The perplexity is the reference's. -/
theorem perplexity_eq (c : Dev nD) : tail m c main_v0_2 = Cert.RefValue.perplexity (F := Ideal) (enc m c) := by
  rw [tail_perplexity, perplexity_final]
  funext j
  obtain rfl : j = ix0 := funext fun a => a.elim0
  rfl

/-- The kernel program's run: it ends with the four results at the reference's values and the arguments unchanged. -/
theorem run : θ_run defs (onTc (τ := τ) (main (F := Ideal))) ⟨m, fun _ => 0, ρ⟩ fun r => ∀ c : Dev nD,
      r.2.mem ((c.tc : Thread nD τ).loc main_v0_0) = Cert.RefValue.quantized (F := Ideal) (Cert.RefValue.chosen (F := Ideal) (enc m c) (E m c)) (Cert.RefValue.nhwc (F := Ideal) (X m c))
      ∧ r.2.mem ((c.tc : Thread nD τ).loc main_v0_1) = Cert.RefValue.loss (F := Ideal) (Cert.RefValue.chosen (F := Ideal) (enc m c) (E m c)) (Cert.RefValue.nhwc (F := Ideal) (X m c))
      ∧ r.2.mem ((c.tc : Thread nD τ).loc main_v0_2) = Cert.RefValue.perplexity (F := Ideal) (enc m c)
      ∧ r.2.mem ((c.tc : Thread nD τ).loc main_v0_3) = enc m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨
      ((h.1 c).2 main_v0_0 (Pipeline.mem_restRefs_of main_v0_0 (by decide) (by decide))).trans (quantized_eq m c),
      ((h.1 c).2 main_v0_1 (Pipeline.mem_restRefs_of main_v0_1 (by decide) (by decide))).trans (loss_eq m c),
      ((h.1 c).2 main_v0_2 (Pipeline.mem_restRefs_of main_v0_2 (by decide) (by decide))).trans (perplexity_eq m c),
      ((h.1 c).1 4).trans (enc_final m c), h.2 c⟩)
    (θ_run_and (run_main m ρ) (unchanged m ρ))

end Cert.KernelRun

end
-- ==== Proof.lean ====
/-
  The certificate: the frames of the three programs, the idealization, and the four results' equality over the
  extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RefRun
public import proofs.«01_k».proof.Proof.KernelRun
public import Idealize.ShloMosaic.Adequacy
public import Idealize.ShloMosaic.Init

@[expose] public section

noncomputable section

namespace Cert.Proof

open Idealize.ShloMosaic Idealize.SL.Sem Cert.Kernel

/-- From memories agreeing on the arguments, the kernel and the reference end with equal results. -/
theorem algebraic : @Cert.algebraic_KernelIdeal_ReferenceIdeal Cert.KernelIdeal.Gen.facts Cert.ReferenceIdeal.Gen.facts :=
  fun m ρ m' ρ' _ hag => ⟨_, _, _, _, Cert.KernelRun.run m ρ,
    (θ_run _ _ _).mono (fun _ h c => by
      have h := h c
      rw [(hag c).1, (hag c).2] at h
      rw [(hag c).1, (hag c).2]
      exact h) (Cert.RefRun.run m' ρ')⟩

/-- Every claim of the certificate. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => Cert.RefRun.frame m ρ,
  trivial, algebraic⟩

end Cert.Proof

end
